-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_data_valid_var [hPre_finite_data_valid_var : Cert.Pre_finite_data_valid_var.Facts] (m : (ℓ : Loc Cert.KernelIdeal.nD Cert.KernelIdeal.τ Cert.KernelIdeal.sig) → Buf (Elt Ideal) ℓ) : Prop :=
  ∀ c : Dev Cert.KernelIdeal.nD,
    (Cert.Pre_finite_data_valid_var.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_data_valid_var.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_data_valid_var.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_data_valid_var [hPre_finite_data_valid_var : Cert.Pre_finite_data_valid_var.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_data_valid_var.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_data_valid_var.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_data_valid_var.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_data_valid_var [hKernelIdeal : Cert.KernelIdeal.Facts] [hPre_finite_data_valid_var : Cert.Pre_finite_data_valid_var.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_data_valid_var m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_data_valid_var [hReferenceIdeal : Cert.ReferenceIdeal.Facts] [hPre_finite_data_valid_var : Cert.Pre_finite_data_valid_var.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_data_valid_var m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "c" .f32 0x3A82F0E1#32 ((999 / 1000000 : ℝ) : EReal)
  ∧ IdealRules.named_const.Statement Cert.KernelIdeal.κ "afwd" .f32 0x3F7FBE77#32 ((999 / 1000 : ℝ) : EReal)

def algebraic_KernelIdeal_ReferenceIdeal_pre_finite_data_valid_var [hKernelIdeal : Cert.KernelIdeal.Facts] [hReferenceIdeal : Cert.ReferenceIdeal.Facts] [hPre_finite_data_valid_var : Cert.Pre_finite_data_valid_var.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_data_valid_var m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_data_valid_var : Cert.Pre_finite_data_valid_var.Facts),
    quiescent_Kernel (hKernel := hKernel)
    ∧ quiescent_KernelIdeal (hKernelIdeal := hKernelIdeal)
    ∧ quiescent_KernelIdeal_pre_finite_data_valid_var (hKernelIdeal := hKernelIdeal) (hPre_finite_data_valid_var := hPre_finite_data_valid_var)
    ∧ quiescent_ReferenceIdeal (hReferenceIdeal := hReferenceIdeal)
    ∧ quiescent_ReferenceIdeal_pre_finite_data_valid_var (hReferenceIdeal := hReferenceIdeal) (hPre_finite_data_valid_var := hPre_finite_data_valid_var)
    ∧ preserves_Kernel_KernelIdeal
    ∧ algebraic_KernelIdeal_ReferenceIdeal_pre_finite_data_valid_var (hKernelIdeal := hKernelIdeal) (hReferenceIdeal := hReferenceIdeal) (hPre_finite_data_valid_var := hPre_finite_data_valid_var)
-- ==== Pre_finite_data_valid_var.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  bcast_S_S4096 : S_.BroadcastsInDim S4096 (![] : Fin 0 → Fin S4096.rank)

variable [Facts]

def fn {F : FTy → Type} [FloatOps F] (main_arg0 : FVec F S8192x4096 .f32) (main_arg1 : FVec F S4096 .f32) (main_arg2 : FVec F S4096 .f32) : IVec S8192x4096 1 × IVec S4096 1 × IVec S4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096 .f32 := Host.absf main_arg1
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_cst_1 : FVec F S_ .f32 := constant S_ .f32 0xB727C5AC#32
  let main_v6 : FVec F S4096 .f32 := broadcastInDim S4096 ![] bcast_S_S4096 main_cst_1
  let main_v7 : IVec S4096 1 := cmpf .ogt main_arg2 main_v6
  (main_v2, main_v5, main_v7)
-- ==== Kernel.lean ====
abbrev S8192x4096 : Shape := ⟨2, ![8192, 4096]⟩
abbrev S4096 : Shape := ⟨1, ![4096]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x4096 : Shape := ⟨2, ![1, 4096]⟩
abbrev S1x1024 : Shape := ⟨2, ![1, 1024]⟩
abbrev S2048x1024 : Shape := ⟨2, ![2048, 1024]⟩
abbrev S256x1024 : Shape := ⟨2, ![256, 1024]⟩
abbrev S255x1024 : Shape := ⟨2, ![255, 1024]⟩

abbrev nBuf : Space → Nat
  | .hbm => 56
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S256, .i32⟩
  | .hbm, ⟨7, _⟩ => ⟨S256x1, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .i32⟩
  | .hbm, ⟨27, _⟩ => ⟨S256x256, .i32⟩
  | .hbm, ⟨28, _⟩ => ⟨S256x256, .i1⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256x1, .f32⟩
  | .hbm, ⟨48, _⟩ => ⟨S256x256, .bf16⟩
  | .hbm, ⟨49, _⟩ => ⟨S256x256, .f32⟩
  | .hbm, ⟨50, _⟩ => ⟨S256x256, .f32⟩
  | .hbm, ⟨51, _⟩ => ⟨S256x256, .bf16⟩
  | .hbm, ⟨52, _⟩ => ⟨S256x256, .bf16⟩
  | .hbm, ⟨53, _⟩ => ⟨S1x4096, .f32⟩
  | .hbm, ⟨54, _⟩ => ⟨S1x4096, .f32⟩
  | .hbm, ⟨55, _⟩ => ⟨S8192x4096, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x1, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | .local _ .vmem, ⟨11, _⟩ => ⟨S2048x1024, .f32⟩
  | .local _ .vmem, ⟨12, _⟩ => ⟨S1x1024, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "afwd" => some ((999 / 1000 : ℝ) : EReal)
  | "c" => some ((999 / 1000000 : ℝ) : EReal)
  | _ => none
-- ==== ReferenceIdeal.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S_, .i32⟩
  | .hbm, ⟨9, _⟩ => ⟨S8192x4096, .f32⟩
  | .hbm, ⟨10, _⟩ => ⟨S_, .f32⟩
  | .hbm, ⟨11, _⟩ => ⟨S_, .i32⟩
  | .hbm, ⟨12, _⟩ => ⟨S4096, .f32⟩
  | .hbm, ⟨13, _⟩ => ⟨S4096, .f32⟩
  | .hbm, ⟨14, _⟩ => ⟨S8192x4096, .f32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S1x4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S1x4096, .f32⟩
  | .hbm, ⟨41, _⟩ => ⟨S_, .i32⟩
  | .hbm, ⟨42, _⟩ => ⟨S8192x4096, .f32⟩
  | .hbm, ⟨43, _⟩ => ⟨S_, .i32⟩
  | .hbm, ⟨44, _⟩ => ⟨S_, .i32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_c : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_while0c_c_7 : Ref sig .tc := ⟨.hbm, 15, rfl⟩
abbrev main_while0c_v3 : Ref sig .tc := ⟨.hbm, 16, rfl⟩
abbrev main_while0b_call0_c : Ref sig .tc := ⟨.hbm, 17, rfl⟩
abbrev main_while0b_call0_v0 : Ref sig .tc := ⟨.hbm, 18, rfl⟩
abbrev main_while0b_v3 : Ref sig .tc := ⟨.hbm, 19, rfl⟩
abbrev main_while0b_cst_7 : Ref sig .tc := ⟨.hbm, 20, rfl⟩
abbrev main_while0b_v4 : Ref sig .tc := ⟨.hbm, 21, rfl⟩
abbrev main_while0b_v5 : Ref sig .tc := ⟨.hbm, 22, rfl⟩
abbrev main_while0b_v6 : Ref sig .tc := ⟨.hbm, 23, rfl⟩
abbrev main_while0b_v7 : Ref sig .tc := ⟨.hbm, 24, rfl⟩
abbrev main_while0b_v8 : Ref sig .tc := ⟨.hbm, 25, rfl⟩
abbrev main_while0b_v9 : Ref sig .tc := ⟨.hbm, 26, rfl⟩
abbrev main_while0b_v10 : Ref sig .tc := ⟨.hbm, 27, rfl⟩
abbrev main_while0b_cst_8 : Ref sig .tc := ⟨.hbm, 28, rfl⟩
abbrev main_while0b_v11 : Ref sig .tc := ⟨.hbm, 29, rfl⟩
abbrev main_while0b_v12 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_cst_9 : Ref sig .tc := ⟨.hbm, 35, rfl⟩
abbrev main_while0b_v17 : Ref sig .tc := ⟨.hbm, 36, rfl⟩
abbrev main_while0b_v18 : Ref sig .tc := ⟨.hbm, 37, rfl⟩
abbrev main_while0b_v19 : Ref sig .tc := ⟨.hbm, 38, rfl⟩
abbrev main_while0b_v20 : Ref sig .tc := ⟨.hbm, 39, rfl⟩
abbrev main_while0b_call1_v0 : Ref sig .tc := ⟨.hbm, 40, rfl⟩
abbrev main_while0b_call1_c : Ref sig .tc := ⟨.hbm, 41, rfl⟩
abbrev main_while0b_v21 : Ref sig .tc := ⟨.hbm, 42, rfl⟩
abbrev main_while0b_c_10 : Ref sig .tc := ⟨.hbm, 43, rfl⟩
abbrev main_while0b_v22 : Ref sig .tc := ⟨.hbm, 44, rfl⟩

abbrev nD : Nat := 1
abbrev τ : Topo := Topo.v7x

variable {F : FTy → Type} [FloatOps F]

abbrev main_while0_count : Scf.Loop 32 := ⟨0#32, 8192#32, 1#32⟩
-- ==== Proof.Recur.lean ====
/- The recurrence of one column, in plain numbers: the running mean, the deviations from it, the running variance, and the
   closed forms one block of rows has over the state the block starts from. Hand-written. -/
module

public import Idealize.ShloMosaic.PureOps.Ideal
public import Mathlib.Data.EReal.Operations
public import Mathlib.Algebra.BigOperators.Fin

@[expose] public section

noncomputable section

namespace Cert.Recur

open Idealize.ShloMosaic

/-- The decay of the running statistics. -/
def decay : ℝ := 999 / 1000

/-- What the variance step multiplies a squared deviation by. -/
def gain : ℝ := 999 / 1000000

/-- The gain is the decay times what the decay leaves of one. -/
theorem gain_eq : gain = decay * (1 - decay) := by unfold gain decay; norm_num

theorem decay_pos : 0 < decay := by unfold decay; norm_num
theorem decay_le_one : decay ≤ 1 := by unfold decay; norm_num

variable (x : ℕ → ℝ) (m : ℝ) (v : EReal)

/-- The running mean before row `n`. -/
def mean : ℕ → ℝ
  | 0 => m
  | n + 1 => mean n + (1 - decay) * (x n - mean n)

/-- Row `n`'s deviation from the running mean before it. -/
def dev (n : ℕ) : ℝ := x n - mean x m n

/-- What row `n` adds to the running variance. -/
def push (n : ℕ) : ℝ := gain * (dev x m n * dev x m n)

/-- The running variance before row `n`; it may be infinite. -/
def var : ℕ → EReal
  | 0 => v
  | n + 1 => (decay : EReal) * var n + (push x m n : EReal)

/-- Row `n` normalized: its deviation over the root of the running variance, `e` added under the root. -/
def normed (e : ℝ) (n : ℕ) : EReal := Ideal.div (dev x m n : EReal) (Ideal.sqrt (var x m v n + (e : EReal)))

theorem mean_succ (n : ℕ) : mean x m (n + 1) = mean x m n + (1 - decay) * dev x m n := rfl
theorem var_succ (n : ℕ) : var x m v (n + 1) = (decay : EReal) * var x m v n + (push x m n : EReal) := rfl

/-- The mean after a row is the row's value less the decayed deviation. -/
theorem mean_succ' (n : ℕ) : mean x m (n + 1) = x n - decay * dev x m n := by
  rw [mean_succ]; unfold dev; ring

/-- Deviations follow the data's increments: decay the last one, add the increment. -/
theorem dev_succ (n : ℕ) : dev x m (n + 1) = decay * dev x m n + (x (n + 1) - x n) := by
  have h := mean_succ' x m n
  unfold dev at *; rw [h]; ring

theorem push_nonneg (n : ℕ) : 0 ≤ push x m n := by
  unfold push gain; have := mul_self_nonneg (dev x m n); positivity

/-- A variance above `-e` stays above it. -/
theorem var_gt {e : ℝ} (he : 0 ≤ e) (hv : ((-e : ℝ) : EReal) < v) (n : ℕ) : ((-e : ℝ) : EReal) < var x m v n := by
  induction n with
  | zero => exact hv
  | succ n ih =>
    rw [var_succ]
    have hp := push_nonneg x m n
    generalize var x m v n = w at ih ⊢
    induction w with
    | bot => exact absurd ih (by simp)
    | top => rw [EReal.coe_mul_top_of_pos decay_pos, EReal.top_add_coe]; exact EReal.coe_lt_top _
    | coe r =>
      rw [← EReal.coe_mul, ← EReal.coe_add, EReal.coe_lt_coe_iff]
      have hr : -e < r := EReal.coe_lt_coe_iff.mp ih
      have := mul_lt_mul_of_pos_left hr decay_pos
      nlinarith [decay_le_one, decay_pos]

/-- The table of the block's first product: powers of the decay on and under the diagonal. -/
def tri (i k : ℕ) : ℝ := if k ≤ i then decay ^ (i - k) else 0

/-- The table of the block's second product: powers of the decay under the diagonal. -/
def tri1 (i k : ℕ) : ℝ := if k + 1 ≤ i then decay ^ (i - 1 - k) else 0

theorem tri1_succ (i k : ℕ) : tri1 (i + 1) k = tri i k := by
  unfold tri1 tri; simp

theorem tri_succ (i k : ℕ) : tri (i + 1) k = decay * tri i k + if k = i + 1 then 1 else 0 := by
  unfold tri
  rcases lt_trichotomy k (i + 1) with h | h | h
  · have h1 : k ≤ i := Nat.lt_succ_iff.mp h
    rw [if_pos (by omega), if_pos h1, if_neg (by omega), add_zero, ← pow_succ', Nat.succ_sub h1]
  · subst h; simp
  · rw [if_neg (by omega), if_neg (by omega), if_neg (by omega)]; simp

/-- The first table's row `i` against `y`, over `N` columns. -/
def row (N : ℕ) (y : ℕ → ℝ) (i : ℕ) : ℝ := ∑ k ∈ Finset.range N, tri i k * y k

theorem row_zero {N : ℕ} (hN : 0 < N) (y : ℕ → ℝ) : row N y 0 = y 0 := by
  unfold row tri
  rw [Finset.sum_eq_single_of_mem 0 (Finset.mem_range.mpr hN)]
  · simp
  · intro k _ hk; rw [if_neg (by omega)]; simp

theorem row_succ {N : ℕ} (y : ℕ → ℝ) {i : ℕ} (hi : i + 1 < N) : row N y (i + 1) = decay * row N y i + y (i + 1) := by
  unfold row
  rw [Finset.mul_sum]
  have h : ∀ k ∈ Finset.range N, tri (i + 1) k * y k = decay * (tri i k * y k) + if k = i + 1 then y k else 0 := by
    intro k _; rw [tri_succ]; split <;> ring
  rw [Finset.sum_congr rfl h, Finset.sum_add_distrib, Finset.sum_ite_eq' (Finset.range N) (i + 1), if_pos (Finset.mem_range.mpr hi)]

/-- A block's increments: the first row against the mean the block starts from, every other against the row before. -/
def incr (s : ℕ) (k : ℕ) : ℝ := x (s + k) - (if k = 0 then mean x m s else x (s + k - 1))

/-- The first table times the increments is the deviations. -/
theorem row_incr {N : ℕ} (s : ℕ) {i : ℕ} (hi : i < N) : row N (incr x m s) i = dev x m (s + i) := by
  induction i with
  | zero => rw [row_zero hi]; simp [incr, dev]
  | succ i ih =>
    rw [row_succ _ hi, ih (by omega)]
    have h := dev_succ x m (s + i)
    rw [show s + (i + 1) = s + i + 1 from rfl, h]
    unfold incr; rw [if_neg (by omega)]; rfl

/-- The second table's row `i` against `y`, over `N` columns. -/
def row1 (N : ℕ) (y : ℕ → ℝ) (i : ℕ) : ℝ := ∑ k ∈ Finset.range N, tri1 i k * y k

theorem row1_zero (N : ℕ) (y : ℕ → ℝ) : row1 N y 0 = 0 := by
  unfold row1 tri1; simp

theorem row1_succ (N : ℕ) (y : ℕ → ℝ) (i : ℕ) : row1 N y (i + 1) = row N y i := by
  unfold row1 row; simp only [tri1_succ]

/-- The second table's step. -/
theorem row1_step {N : ℕ} (y : ℕ → ℝ) {i : ℕ} (hi : i < N) : row1 N y (i + 1) = decay * row1 N y i + y i := by
  rw [row1_succ]
  cases i with
  | zero => rw [row_zero hi, row1_zero]; simp
  | succ i => rw [row_succ _ hi, row1_succ]

theorem decay_nonneg' : (0 : EReal) ≤ (decay : EReal) := EReal.coe_nonneg.mpr decay_pos.le

/-- The second table times the block's pushes, plus the decayed starting variance, is the running variance. -/
theorem row1_push {N : ℕ} (s : ℕ) {i : ℕ} (hi : i < N) :
    ((row1 N (fun k => push x m (s + k)) i : ℝ) : EReal) + ((decay ^ i : ℝ) : EReal) * var x m v s = var x m v (s + i) := by
  induction i with
  | zero => rw [row1_zero]; simp
  | succ i ih =>
    rw [row1_step _ (by omega), show s + (i + 1) = s + i + 1 from rfl, var_succ, ← ih (by omega),
      EReal.left_distrib_of_nonneg_of_ne_top decay_nonneg' (EReal.coe_ne_top _), pow_succ', EReal.coe_mul, EReal.coe_add, EReal.coe_mul,
      mul_assoc]
    exact add_right_comm _ _ _

/-- Dividing by a root is multiplying by the inverse root, under a positive number or infinity. -/
theorem div_sqrt_eq (d : ℝ) {w : EReal} (hw : 0 < w) : Ideal.div (d : EReal) (Ideal.sqrt w) = (d : EReal) * Ideal.rsqrt w := by
  induction w with
  | bot => exact absurd hw (by simp)
  | top =>
    rw [show Ideal.sqrt ⊤ = ⊤ from rfl, show Ideal.rsqrt ⊤ = 0 from rfl]
    simp [Ideal.div]
  | coe r =>
    have hr : 0 < r := EReal.coe_pos.mp hw
    have hs : Real.sqrt r ≠ 0 := (Real.sqrt_pos.mpr hr).ne'
    have h1 : Ideal.sqrt (r : EReal) = ((Real.sqrt r : ℝ) : EReal) := by
      show (if r < 0 then ⊥ else ((Real.sqrt r : ℝ) : EReal)) = _
      rw [if_neg (not_lt.mpr hr.le)]
    have h2 : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [h1, h2, Ideal.div, if_neg (by exact_mod_cast hs), EReal.coe_inv]

/-- A row's normalized value as a product. -/
theorem normed_eq {e : ℝ} (he : 0 ≤ e) (hv : ((-e : ℝ) : EReal) < v) (n : ℕ) :
    normed x m v e n = (dev x m n : EReal) * Ideal.rsqrt (var x m v n + (e : EReal)) := by
  unfold normed
  refine div_sqrt_eq _ ?_
  have h := var_gt x m v he hv n
  generalize var x m v n = w at h ⊢
  induction w with
  | bot => exact absurd h (by simp)
  | top => rw [EReal.top_add_coe]; exact EReal.coe_lt_top 0
  | coe r =>
    rw [← EReal.coe_add]; have := EReal.coe_lt_coe_iff.mp h
    exact EReal.coe_pos.mpr (by linarith)

/-- Column `j` of an array of 8192 rows, its entries read as real numbers. -/
def column (X : Fin 8192 → Fin 4096 → EReal) (j : Fin 4096) : ℕ → ℝ := fun n => if h : n < 8192 then (X ⟨n, h⟩ j).toReal else 0

theorem column_at (X : Fin 8192 → Fin 4096 → EReal) (j : Fin 4096) (r : Fin 8192) : column X j r = (X r j).toReal := dif_pos r.isLt

/-- What both programs compute: every row normalized by the running statistics of its column. -/
def spec (X : Fin 8192 → Fin 4096 → EReal) (M S : Fin 4096 → EReal) (e : ℝ) (r : Fin 8192) (j : Fin 4096) : EReal :=
  normed (column X j) (M j).toReal (S j) e r

end Cert.Recur

end
-- ==== Proof.Consts.lean ====
/- The constants of the two programs, read as extended reals. Hand-written. -/
module

public import proofs.«01_k».proof.KernelIdeal
public import proofs.«01_k».proof.Proof.Recur
public import Idealize.ShloMosaic.Lib.IdealHost
public import Idealize.ShloMosaic.PureOps.IdealRules

@[expose] public section

noncomputable section

namespace Cert.Consts

open Idealize.ShloMosaic Cert.Recur

/-- What is added under the root: the value of the constant's word. -/
def eps : ℝ := 10995116 / 2 ^ 40

theorem eps_nonneg : 0 ≤ eps := by unfold eps; positivity

theorem ofBits_eps : Ideal.ofBits .f32 0x3727C5AC#32 = (eps : EReal) := by
  unfold eps; simp [Ideal.ofBits, Ideal.ieee, -EReal.coe_mul]; norm_num

theorem ofBits_neg_eps : Ideal.ofBits .f32 0xB727C5AC#32 = ((-eps : ℝ) : EReal) := by
  unfold eps; simp [Ideal.ofBits, Ideal.ieee, -EReal.coe_mul, -EReal.coe_neg]; norm_num

theorem ofBits_inf : Ideal.ofBits .f32 0x7F800000#32 = (⊤ : EReal) := by
  simp [Ideal.ofBits, Ideal.ieee]

theorem ofBits_999 : Ideal.ofBits .f32 0x4479C000#32 = ((999 : ℝ) : EReal) := by
  simp [Ideal.ofBits, Ideal.ieee, -EReal.coe_mul]; norm_num

theorem ofBits_1000 : Ideal.ofBits .f32 0x447A0000#32 = ((1000 : ℝ) : EReal) := by
  simp [Ideal.ofBits, Ideal.ieee, -EReal.coe_mul]; norm_num

/-- The quotient both programs compute on the host is the decay. -/
theorem quotient_eq : Ideal.div (Ideal.ofBits .f32 0x4479C000#32) (Ideal.ofBits .f32 0x447A0000#32) = (decay : EReal) := by
  rw [ofBits_999, ofBits_1000, Ideal.div_coe (by norm_num), ← EReal.coe_mul]
  exact congrArg _ (by unfold decay; norm_num)

/-- The kernel's named decay. -/
theorem named_afwd : Named.named (F := Ideal) Cert.KernelIdeal.κ "afwd" (φ := .f32) 0x3F7FBE77#32 = (decay : EReal) :=
  IdealRules.named_const.ideal_named_scalar _ _ _ _ rfl

/-- The kernel's named gain. -/
theorem named_c : Named.named (F := Ideal) Cert.KernelIdeal.κ "c" (φ := .f32) 0x3A82F0E1#32 = (gain : EReal) :=
  IdealRules.named_const.ideal_named_scalar _ _ _ _ rfl

end Cert.Consts

end
-- ==== Proof.Block.lean ====
/- One block of 256 rows as the kernel computes it, in a vocabulary common to the eight blocks of a grid point, and what it
   computes at an index: the recurrence of Recur.lean. Hand-written. -/
module

public import proofs.«01_k».proof.Proof.Gen.KernelIdeal.Skeleton
public import proofs.«01_k».proof.Proof.Consts
public import Idealize.ShloMosaic.Lib.MatmulPlain
public import Idealize.ShloMosaic.Lib.Pipeline.Value
public import Idealize.ShloMosaic.Lib.ValueIdx

@[expose] public section

set_option maxRecDepth 16384

noncomputable section

namespace Cert.Blk

open Idealize.ShloMosaic Idealize.ShloMosaic.TcCoe Idealize.ShloMosaic.ValueIdx Cert.KernelIdeal Cert.KernelIdeal.Gen
open Cert.Recur Cert.Consts

section Words

variable {F : FTy → Type} [FloatOps F] [Named F]

/-- A block's last row. -/
def lastRow (y : FVec F S256x1024 .f32) : FVec F S1x1024 .f32 := extractStridedSlice S1x1024 ![255, 0] y slices_S256x1024_o255_0_S1x1024

/-- The row above each row: the mean `mu` above the first. -/
def above (mu : FVec F S1x1024 .f32) (xs : FVec F S256x1024 .f32) : FVec F S256x1024 .f32 :=
  concatenate S256x1024 0 [⟨S1x1024, mu⟩, ⟨S255x1024, extractStridedSlice S255x1024 ![0, 0] xs slices_S256x1024_o0_0_S255x1024⟩]
    concatenates_S1x1024_S255x1024_S256x1024_d0

/-- A table times a block, from zero. -/
def prod (t : FVec F S256x256 .bf16) (y : FVec F S256x1024 .bf16) : FVec F S256x1024 .f32 :=
  matmul dot_S256x256_S256x1024_S256x1024_1_0_0_1_n_n none t y (constant S256x1024 .f32 0x00000000#32)

/-- The deviations from increments `y`: `y` and the table each split in a leading part and a remainder. -/
def devOf (thi tlo : FVec F S256x256 .bf16) (y : FVec F S256x1024 .f32) : FVec F S256x1024 .f32 :=
  addf (addf (prod thi (truncf .bf16 y bitsLt_bf16_f32)) (prod tlo (truncf .bf16 y bitsLt_bf16_f32)))
    (prod thi (truncf .bf16 (subf y (extf .f32 (truncf .bf16 y bitsLt_bf16_f32) bitsLt_bf16_f32)) bitsLt_bf16_f32))

/-- What each row adds to the running variance. -/
def pushOf (d : FVec F S256x1024 .f32) : FVec F S256x1024 .f32 :=
  mulf (broadcast S256x1024 (Named.named κ "c" 0x3A82F0E1#32)) (mulf d d)

/-- The running variance before each row. -/
def varOf (t2 : FVec F S256x256 .bf16) (dc : FVec F S256x1 .f32) (v : FVec F S1x1024 .f32) (w : FVec F S256x1024 .f32) : FVec F S256x1024 .f32 :=
  addf (prod t2 (truncf .bf16 w bitsLt_bf16_f32))
    (mulf (broadcastTo S256x1024 dc broadcasts_S256x1_S256x1024) (broadcastTo S256x1024 v broadcasts_S1x1024_S256x1024))

/-- The tables of the four products. -/
structure Tabs (F : FTy → Type) where
  /-- the first table's leading part -/
  thi : FVec F S256x256 .bf16
  /-- the first table's remainder -/
  tlo : FVec F S256x256 .bf16
  /-- the second table -/
  t2 : FVec F S256x256 .bf16
  /-- the powers of the decay -/
  dc : FVec F S256x1 .f32

/-- The running statistics between blocks: mean and variance. -/
structure Stat (F : FTy → Type) where
  /-- the mean -/
  mu : FVec F S1x1024 .f32
  /-- the variance -/
  v : FVec F S1x1024 .f32

variable (T : Tabs F) (st : Stat F) (xs : FVec F S256x1024 .f32)

/-- The block's deviations. -/
def devs : FVec F S256x1024 .f32 := devOf T.thi T.tlo (subf xs (above st.mu xs))

/-- The running variance before each of the block's rows. -/
def vars : FVec F S256x1024 .f32 := varOf T.t2 T.dc st.v (pushOf (devs T st xs))

/-- The block's normalized rows. -/
def outs : FVec F S256x1024 .f32 :=
  mulf (devs T st xs) (rsqrt (addf (vars T st xs) (broadcast S256x1024 (Scalar.ofBits .f32 0x3727C5AC#32))))

/-- The running statistics after the block. -/
def next : Stat F where
  mu := subf (lastRow xs) (mulf (broadcast S1x1024 (Named.named κ "afwd" 0x3F7FBE77#32)) (lastRow (devs T st xs)))
  v := addf (mulf (broadcast S1x1024 (Named.named κ "afwd" 0x3F7FBE77#32)) (lastRow (vars T st xs))) (lastRow (pushOf (devs T st xs)))

end Words

/-! ## At an index, over the extended reals -/

theorem lastRow_apply (y : FVec Ideal S256x1024 .f32) (j : Fin 1024) : lastRow y (ix2 0 j) = y (ix2 255 j) :=
  extractStridedSlice_apply _ _ _ _ _ fun a => by match a with | ⟨0, _⟩ => rfl | ⟨1, _⟩ => exact (Nat.zero_add _).symm

theorem above_zero (mu : FVec Ideal S1x1024 .f32) (xs : FVec Ideal S256x1024 .f32) (j : Fin 1024) : above mu xs (ix2 0 j) = mu (ix2 0 j) :=
  concatenate_pair_apply_left (t := S256x1024) (0 : Fin 2) mu _ concatenates_S1x1024_S255x1024_S256x1024_d0 _ rfl _ fun a => by match a with | ⟨0, _⟩ => rfl | ⟨1, _⟩ => rfl

theorem above_succ (mu : FVec Ideal S1x1024 .f32) (xs : FVec Ideal S256x1024 .f32) (k : ℕ) (h : k + 1 < 256) (j : Fin 1024) :
    above mu xs (ix2 ⟨k + 1, h⟩ j) = xs (ix2 ⟨k, by omega⟩ j) := by
  refine (concatenate_pair_apply_right (t := S256x1024) (0 : Fin 2) mu _ concatenates_S1x1024_S255x1024_S256x1024_d0 _ rfl rfl (ix2 (⟨k, by omega⟩ : Fin 255) j) (fun a ha => ?_) rfl).trans
    (extractStridedSlice_apply _ _ _ _ _ fun a => ?_)
  · match a with
    | ⟨0, _⟩ => exact absurd rfl ha
    | ⟨1, _⟩ => rfl
  · match a with
    | ⟨0, _⟩ => exact (Nat.zero_add _).symm
    | ⟨1, _⟩ => exact (Nat.zero_add _).symm

theorem prod_apply (t : FVec Ideal S256x256 .bf16) (y : FVec Ideal S256x1024 .bf16) (i : Fin 256) (j : Fin 1024) :
    prod t y (ix2 i j) = ∑ k : Fin 256, t (ix2 i k) * y (ix2 k j) := by
  refine (Ideal.matmul_plain_apply (M := 256) (K := 256) (N := 1024) none t y _ i j).trans ?_
  rw [show (constant S256x1024 .f32 0x00000000#32 : FVec Ideal S256x1024 .f32) (ix2 i j) = 0 from Ideal.ofBits_zero_f32, zero_add]

theorem scaleRows_apply (dc : FVec Ideal S256x1 .f32) (i : Fin 256) (j : Fin 1024) :
    broadcastTo S256x1024 dc broadcasts_S256x1_S256x1024 (ix2 i j) = dc (ix2 i 0) :=
  broadcastTo_apply _ _ _ _ fun a => by match a with | ⟨0, _⟩ => rfl | ⟨1, _⟩ => rfl

theorem everyRow_apply (v : FVec Ideal S1x1024 .f32) (i : Fin 256) (j : Fin 1024) :
    broadcastTo S256x1024 v broadcasts_S1x1024_S256x1024 (ix2 i j) = v (ix2 0 j) :=
  broadcastTo_apply _ _ _ _ fun a => by match a with | ⟨0, _⟩ => rfl | ⟨1, _⟩ => rfl

/-- The tables hold powers of the decay; the remainder of the first is zero. -/
structure Good (T : Tabs Ideal) : Prop where
  thi : ∀ i k : Fin 256, T.thi (ix2 i k) = ((tri i k : ℝ) : EReal)
  tlo : ∀ i k : Fin 256, T.tlo (ix2 i k) = 0
  t2 : ∀ i k : Fin 256, T.t2 (ix2 i k) = ((tri1 i k : ℝ) : EReal)
  dc : ∀ i : Fin 256, T.dc (ix2 i 0) = ((decay ^ (i : ℕ) : ℝ) : EReal)

variable {cx : Fin 1024 → ℕ → ℝ} {cm : Fin 1024 → ℝ} {cv : Fin 1024 → EReal}

/-- The running statistics hold what the recurrence has before row `n`, in every column. -/
structure Holds (cx : Fin 1024 → ℕ → ℝ) (cm : Fin 1024 → ℝ) (cv : Fin 1024 → EReal) (n : ℕ) (st : Stat Ideal) : Prop where
  mu : ∀ j, st.mu (ix2 0 j) = ((mean (cx j) (cm j) n : ℝ) : EReal)
  v : ∀ j, st.v (ix2 0 j) = var (cx j) (cm j) (cv j) n

variable {T : Tabs Ideal} (hT : Good T) {n : ℕ} {st : Stat Ideal} (hst : Holds cx cm cv n st)
  {xs : FVec Ideal S256x1024 .f32} (hxs : ∀ (i : Fin 256) (j : Fin 1024), xs (ix2 i j) = ((cx j (n + i) : ℝ) : EReal))

/-- A sum of products of real numbers, read in the extended reals. -/
theorem sum_coe (f g : ℕ → ℝ) : (∑ k : Fin 256, ((f k : ℝ) : EReal) * ((g k : ℝ) : EReal)) = ((∑ k ∈ Finset.range 256, f k * g k : ℝ) : EReal) := by
  rw [Fin.sum_univ_eq_sum_range (fun k => ((f k : ℝ) : EReal) * ((g k : ℝ) : EReal)) 256]
  induction Finset.range 256 using Finset.induction_on with
  | empty => simp
  | insert a s ha ih => rw [Finset.sum_insert ha, Finset.sum_insert ha, ih, EReal.coe_add, EReal.coe_mul]

include hst hxs in
/-- The block's increments are the column's. -/
theorem incr_apply (k : Fin 256) (j : Fin 1024) : subf xs (above st.mu xs) (ix2 k j) = ((incr (cx j) (cm j) n k : ℝ) : EReal) := by
  show xs (ix2 k j) - above st.mu xs (ix2 k j) = _
  obtain ⟨k, hk⟩ := k
  cases k with
  | zero =>
    rw [show ((⟨0, hk⟩ : Fin 256)) = 0 from rfl, above_zero, hst.mu, hxs, ← EReal.coe_sub]; rfl
  | succ k =>
    rw [above_succ, hxs, hxs, ← EReal.coe_sub]; rfl

include hT hst hxs in
/-- The block's deviations are the column's. -/
theorem devs_apply (i : Fin 256) (j : Fin 1024) : devs T st xs (ix2 i j) = ((dev (cx j) (cm j) (n + i) : ℝ) : EReal) := by
  have hy := incr_apply hst hxs
  show (prod T.thi _ (ix2 i j) + prod T.tlo _ (ix2 i j) : EReal) + prod T.thi _ (ix2 i j) = _
  rw [prod_apply, prod_apply, prod_apply]
  have h1 : ∀ k : Fin 256, T.thi (ix2 i k) * subf xs (above st.mu xs) (ix2 k j)
      = ((tri i k : ℝ) : EReal) * ((incr (cx j) (cm j) n k : ℝ) : EReal) := fun k => by rw [hT.thi, hy]
  have h2 : ∀ k : Fin 256, T.tlo (ix2 i k) * subf xs (above st.mu xs) (ix2 k j) = 0 := fun k => by rw [hT.tlo, zero_mul]
  have h3 : ∀ k : Fin 256, T.thi (ix2 i k) * (subf xs (above st.mu xs) (ix2 k j) - subf xs (above st.mu xs) (ix2 k j) : EReal) = 0 := fun k => by
    rw [hy, ← EReal.coe_sub, sub_self, EReal.coe_zero, mul_zero]
  refine (congrArg₂ (· + ·) (congrArg₂ (· + ·) (Finset.sum_congr rfl fun k _ => h1 k) (Finset.sum_congr rfl fun k _ => h2 k))
    (Finset.sum_congr rfl fun k _ => h3 k)).trans ?_
  rw [Finset.sum_const_zero]
  show (_ + 0 : EReal) + 0 = _
  rw [add_zero, add_zero, sum_coe (fun k => tri i k) (fun k => incr (cx j) (cm j) n k)]
  exact congrArg _ (row_incr (cx j) (cm j) n i.isLt)

include hT hst hxs in
/-- What the block's rows add to the running variance. -/
theorem pushOf_apply (i : Fin 256) (j : Fin 1024) : pushOf (devs T st xs) (ix2 i j) = ((push (cx j) (cm j) (n + i) : ℝ) : EReal) := by
  show (Named.named (F := Ideal) κ "c" (φ := .f32) 0x3A82F0E1#32 * (devs T st xs (ix2 i j) * devs T st xs (ix2 i j)) : EReal) = _
  rw [named_c, devs_apply hT hst hxs, ← EReal.coe_mul, ← EReal.coe_mul]; rfl

include hT hst hxs in
/-- The running variance before each of the block's rows is the column's. -/
theorem vars_apply (i : Fin 256) (j : Fin 1024) : vars T st xs (ix2 i j) = var (cx j) (cm j) (cv j) (n + i) := by
  show (prod T.t2 _ (ix2 i j) + broadcastTo S256x1024 T.dc broadcasts_S256x1_S256x1024 (ix2 i j)
    * broadcastTo S256x1024 st.v broadcasts_S1x1024_S256x1024 (ix2 i j) : EReal) = _
  rw [prod_apply, scaleRows_apply, everyRow_apply, hT.dc, hst.v]
  have h1 : ∀ k : Fin 256, T.t2 (ix2 i k) * pushOf (devs T st xs) (ix2 k j)
      = ((tri1 i k : ℝ) : EReal) * ((push (cx j) (cm j) (n + k) : ℝ) : EReal) := fun k => by rw [hT.t2, pushOf_apply hT hst hxs]
  refine (congrArg (· + _) (Finset.sum_congr rfl fun k _ => h1 k)).trans ?_
  rw [sum_coe (fun k => tri1 i k) (fun k => push (cx j) (cm j) (n + k))]
  exact row1_push (cx j) (cm j) (cv j) n i.isLt

include hT hst hxs in
/-- The block's normalized rows are the column's, for a starting variance above `-eps`. -/
theorem outs_apply (hv : ∀ j, ((-eps : ℝ) : EReal) < cv j) (i : Fin 256) (j : Fin 1024) :
    outs T st xs (ix2 i j) = normed (cx j) (cm j) (cv j) eps (n + i) := by
  show (devs T st xs (ix2 i j) * Ideal.rsqrt (vars T st xs (ix2 i j) + Ideal.ofBits .f32 0x3727C5AC#32) : EReal) = _
  rw [devs_apply hT hst hxs, vars_apply hT hst hxs, ofBits_eps, normed_eq _ _ _ eps_nonneg (hv j)]

include hT hst hxs in
/-- The block leaves the statistics of the row after its last. -/
theorem next_holds : Holds cx cm cv (n + 256) (next T st xs) where
  mu j := by
    show (lastRow xs (ix2 0 j) - Named.named (F := Ideal) κ "afwd" (φ := .f32) 0x3F7FBE77#32 * lastRow (devs T st xs) (ix2 0 j) : EReal) = _
    rw [lastRow_apply, lastRow_apply, named_afwd, hxs, devs_apply hT hst hxs, ← EReal.coe_mul, ← EReal.coe_sub]
    exact congrArg _ (mean_succ' (cx j) (cm j) (n + 255)).symm
  v j := by
    show (Named.named (F := Ideal) κ "afwd" (φ := .f32) 0x3F7FBE77#32 * lastRow (vars T st xs) (ix2 0 j) + lastRow (pushOf (devs T st xs)) (ix2 0 j) : EReal) = _
    rw [lastRow_apply, lastRow_apply, named_afwd, vars_apply hT hst hxs, pushOf_apply hT hst hxs]
    rfl

end Cert.Blk

end
-- ==== Proof.Point.lean ====
/- One grid point of the kernel: eight blocks of 256 rows, in Block.lean's vocabulary. What a point leaves in its output block
   and in the two statistics, from the statistics it starts with. Hand-written. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.Point

open Idealize.ShloMosaic hiding ix2 eq_ix2
open Idealize.ShloMosaic.TcCoe Idealize.ShloMosaic.ValueIdx Idealize.SL.Sem Cert.KernelIdeal Cert.KernelIdeal.Gen
open Cert.Recur Cert.Consts Cert.Blk

section Words

variable {F : FTy → Type} [FloatOps F] [Named F]

theorem slab_slices (k : Fin 8) : S2048x1024.Slices ![256 * k.val, 0] S256x1024 := by
  revert k; decide

theorem slab_inb (k : Fin 8) : ∀ a, (![256 * k.val, 0] : Fin 2 → ℕ) a + S256x1024.size a ≤ S2048x1024.size a := by
  revert k; decide

/-- Block `k` of a grid point's rows. -/
def slab (X : Vec F S2048x1024 .f32) (k : Fin 8) : FVec F S256x1024 .f32 := extractStridedSlice S256x1024 ![256 * k.val, 0] X (slab_slices k)

/-- The running statistics before block `k`. -/
def stats (T : Tabs F) (st : Stat F) (X : Vec F S2048x1024 .f32) : (k : ℕ) → k ≤ 8 → Stat F
  | 0, _ => st
  | k + 1, h => next T (stats T st X k (Nat.le_of_succ_le h)) (slab X ⟨k, h⟩)

/-- The store of block `k`: its normalized rows over rows `256 k …`. -/
def piece (T : Tabs F) (st : Stat F) (X : Vec F S2048x1024 .f32) (k : Fin 8) : View.Piece (Elt F) S2048x1024 .f32 :=
  ⟨Rect.unit (s := S2048x1024) ![256 * k.val, 0] S256x1024.size (slab_inb k), outs T (stats T st X k.val k.isLt.le) (slab X k)⟩

/-- The stores of a grid point, the last one first. -/
def pieces (T : Tabs F) (st : Stat F) (X : Vec F S2048x1024 .f32) : List (View.Piece (Elt F) S2048x1024 .f32) :=
  [7, 6, 5, 4, 3, 2, 1, 0].map (piece T st X)

/-- What a grid point leaves: its output block and the two statistics. -/
def leaves (T : Tabs F) (st : Stat F) (X : Vec F S2048x1024 .f32) : Vec F S2048x1024 .f32 × Vec F S1x1024 .f32 × Vec F S1x1024 .f32 :=
  (View.canon (pieces T st X), (stats T st X 8 le_rfl).mu, (stats T st X 8 le_rfl).v)

theorem pay1_eq (x : FVec F S1x1024 .f32) : k0_pay1 x = x := shapeCast_self _ _
theorem pay2_eq (x : FVec F S1x1024 .f32) : k0_pay2 x = x := shapeCast_self _ _
theorem pay3_eq (x : Vec F S1x1024 .f32) : k0_pay3 x = x := (shapeCast_self _ _).trans (shapeCast_self _ _)
theorem pay4_eq (x : Vec F S1x1024 .f32) : k0_pay4 x = x := (shapeCast_self _ _).trans (shapeCast_self _ _)
theorem pay5_eq (x : Vec F S256x256 .bf16) : k0_pay5 x = x := shapeCast_self _ _
theorem pay6_eq (x : Vec F S256x256 .bf16) : k0_pay6 x = x := shapeCast_self _ _
theorem pay7_eq (x : Vec F S256x256 .bf16) : k0_pay7 x = x := shapeCast_self _ _
theorem pay8_eq (x : Vec F S256x1 .f32) : k0_pay8 x = x := shapeCast_self _ _

section Cases

variable (c : Dev nD) (i : grid0.Coords) (arg2 : Memref sig .tc .vmem S256x256 .bf16) (harg2 : arg2.IsWhole)
  (arg3 : Memref sig .tc .vmem S256x256 .bf16) (harg3 : arg3.IsWhole) (arg4 : Memref sig .tc .vmem S256x256 .bf16) (harg4 : arg4.IsWhole)
  (arg5 : Memref sig .tc .vmem S256x1 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S2048x1024 .f32) (harg8 : arg8.IsWhole)
  (arg9 : Memref sig .tc .vmem S2048x1024 .f32) (harg9 : arg9.IsWhole) (arg10 : Memref sig .tc .vmem S1x1024 .f32) (harg10 : arg10.IsWhole)
  (arg11 : Memref sig .tc .vmem S1x1024 .f32) (harg11 : arg11.IsWhole) (hA : cond0_0 i) (hB : ¬cond0_0 i)
  (x0 : Vec F S256x256 .bf16) (x1 : Vec F S256x256 .bf16) (x2 : Vec F S256x256 .bf16) (x3 : Vec F S256x1 .f32)
  (x4 : Vec F S1x1024 .f32) (x5 : Vec F S1x1024 .f32) (x6 : Vec F S2048x1024 .f32) (xs0 : Vec F S1x1024 .f32) (xs1 : Vec F S1x1024 .f32)

theorem zeros : (![0, 0] : Fin 2 → ℕ) = fun _ => 0 := funext fun a => by fin_cases a <;> rfl

/-- A column's first grid point, over its blocks' contents. -/
theorem first_eq :
    (out0_A_7 c i arg2 harg2 arg3 harg3 arg4 harg4 arg5 harg5 arg6 harg6 arg7 harg7 arg8 harg8 arg9 harg9 arg10 harg10 arg11 harg11 hA x0 x1 x2 x3 x4 x5 x6,
      sout0_A_0 c i arg2 harg2 arg3 harg3 arg4 harg4 arg5 harg5 arg6 harg6 arg7 harg7 arg8 harg8 arg9 harg9 arg10 harg10 arg11 harg11 hA x0 x1 x2 x3 x4 x5 x6,
      sout0_A_1 c i arg2 harg2 arg3 harg3 arg4 harg4 arg5 harg5 arg6 harg6 arg7 harg7 arg8 harg8 arg9 harg9 arg10 harg10 arg11 harg11 hA x0 x1 x2 x3 x4 x5 x6)
    = leaves ⟨x0, x1, x2, x3⟩ ⟨x4, x5⟩ x6 := by
  refine Eq.trans (b := leaves ⟨k0_pay5 x0, k0_pay6 x1, k0_pay7 x2, k0_pay8 x3⟩ ⟨x4, x5⟩ x6) ?_ (by rw [pay5_eq, pay6_eq, pay7_eq, pay8_eq])
  unfold out0_A_7 sout0_A_0 sout0_A_1
  simp only [View.read_writes_junk_eq_canon]
  unfold kernelRun0_A
  dsimp only
  sl_unfold_words
  simp only [View.readAt_eq_ld, View.canon_cons_unit_zero (S := S1x1024) zeros, View.readCov_unit_zero (S := S1x1024) _ zeros, Memref.IsWhole.read_unread,
    View.ld_unit_zero (S := S256x256) zeros, View.ld_unit_zero (S := S256x1) zeros, View.ld_unit_zero (S := S1x1024) zeros,
    View.ld_unit_zero (S := S2048x1024) zeros, pay1_eq, pay2_eq, pay3_eq, pay4_eq, shapeCast_self]
  rfl

/-- A later one, over its blocks' contents and the statistics it finds. -/
theorem later_eq :
    (out0_B_7 c i arg2 harg2 arg3 harg3 arg4 harg4 arg5 harg5 arg6 harg6 arg7 harg7 arg8 harg8 arg9 harg9 arg10 harg10 arg11 harg11 hB x0 x1 x2 x3 x4 x5 x6 xs0 xs1,
      sout0_B_0 c i arg2 harg2 arg3 harg3 arg4 harg4 arg5 harg5 arg6 harg6 arg7 harg7 arg8 harg8 arg9 harg9 arg10 harg10 arg11 harg11 hB x0 x1 x2 x3 x4 x5 x6 xs0 xs1,
      sout0_B_1 c i arg2 harg2 arg3 harg3 arg4 harg4 arg5 harg5 arg6 harg6 arg7 harg7 arg8 harg8 arg9 harg9 arg10 harg10 arg11 harg11 hB x0 x1 x2 x3 x4 x5 x6 xs0 xs1)
    = leaves ⟨x0, x1, x2, x3⟩ ⟨xs0, xs1⟩ x6 := by
  refine Eq.trans (b := leaves ⟨k0_pay5 x0, k0_pay6 x1, k0_pay7 x2, k0_pay8 x3⟩ ⟨xs0, xs1⟩ x6) ?_ (by rw [pay5_eq, pay6_eq, pay7_eq, pay8_eq])
  unfold out0_B_7 sout0_B_0 sout0_B_1
  simp only [View.read_writes_junk_eq_canon]
  unfold kernelRun0_B
  dsimp only
  sl_unfold_words
  simp only [View.readAt_eq_ld, View.canon_cons_unit_zero (S := S1x1024) zeros, Memref.IsWhole.read_unread,
    View.ld_unit_zero (S := S256x256) zeros, View.ld_unit_zero (S := S256x1) zeros, View.ld_unit_zero (S := S1x1024) zeros,
    View.ld_unit_zero (S := S2048x1024) zeros, pay1_eq, pay2_eq, shapeCast_self]
  rfl

end Cases

variable (m : (ℓ : Loc nD τ sig) → Buf (Elt F) ℓ)

/-- The tables a grid point reads. -/
def tabs (c : Dev nD) (t : Fin cfg0.N) : Tabs F := ⟨iblk m c 0 t, iblk m c 1 t, iblk m c 2 t, iblk m c 3 t⟩

/-- A column's first grid point starts from the given statistics. -/
theorem outs_first (c : Dev nD) (t : Fin cfg0.N) (h : t.val % 4 = 0) :
    outsAt0 m c t.val t.isLt = leaves (tabs m c t) ⟨iblk m c 4 t, iblk m c 5 t⟩ (iblk m c 6 t) :=
  (outsAt0_A m c t h).trans (first_eq ..)

/-- A later one from what the point before left. -/
theorem outs_later (c : Dev nD) (t : Fin cfg0.N) (h : ¬t.val % 4 = 0) :
    outsAt0 m c t.val t.isLt = leaves (tabs m c t) ⟨(outsAt0 m c (t.val - 1) (Nat.lt_of_le_of_lt (Nat.sub_le _ _) t.isLt)).2.1,
      (outsAt0 m c (t.val - 1) (Nat.lt_of_le_of_lt (Nat.sub_le _ _) t.isLt)).2.2⟩ (iblk m c 6 t) :=
  (outsAt0_B m c t h).trans (later_eq ..)

end Words

variable {cx : Fin 1024 → ℕ → ℝ} {cm : Fin 1024 → ℝ} {cv : Fin 1024 → EReal}
variable {T : Tabs Ideal} (hT : Good T) {n : ℕ} {st : Stat Ideal} (hst : Holds cx cm cv n st)
  {X : Vec Ideal S2048x1024 .f32} (hX : ∀ (i : Fin 2048) (j : Fin 1024), X (ix2 i j) = ((cx j (n + i) : ℝ) : EReal))

include hX in
theorem slab_apply (k : Fin 8) (i : Fin 256) (j : Fin 1024) : slab X k (ix2 i j) = ((cx j (n + 256 * k + i) : ℝ) : EReal) := by
  refine (extractStridedSlice_apply (s := S2048x1024) (t := S256x1024) _ _ _ _ (ix2 (⟨256 * k + i, by omega⟩ : Fin 2048) j) fun a => ?_).trans ((hX _ _).trans ?_)
  · match a with
    | ⟨0, _⟩ => rfl
    | ⟨1, _⟩ => exact (Nat.zero_add _).symm
  · rw [Nat.add_assoc]

include hT hst hX in
/-- The statistics before block `k` are those of its first row. -/
theorem stats_holds : ∀ (k : ℕ) (hk : k ≤ 8), Holds cx cm cv (n + 256 * k) (stats T st X k hk)
  | 0, _ => hst
  | k + 1, hk => next_holds hT (stats_holds k (Nat.le_of_succ_le hk)) (slab_apply hX ⟨k, hk⟩)

/-- The normalized rows of a grid point, as a function of the block's index. -/
def rowsOf (cx : Fin 1024 → ℕ → ℝ) (cm : Fin 1024 → ℝ) (cv : Fin 1024 → EReal) (n : ℕ) : Vec Ideal S2048x1024 .f32 := fun y =>
  normed (cx (y 1)) (cm (y 1)) (cv (y 1)) eps (n + (y 0).val)

theorem emb_slab (k : Fin 8) (a : Fin 256) (b : Fin 1024) :
    (Rect.unit (s := S2048x1024) ![256 * k.val, 0] S256x1024.size (slab_inb k)).emb (ix2 a b) = ix2 (⟨256 * k + a, by omega⟩ : Fin 2048) b := by
  funext d
  match d with
  | ⟨0, _⟩ => exact Fin.ext (by simp)
  | ⟨1, _⟩ => exact Fin.ext (by simp)

/-- Every index of the output block lies in one of the stores. -/
theorem pieces_cover (y : S2048x1024.Idx) : ∃ p ∈ pieces T st X, y ∈ p.1.set := by
  obtain ⟨i, j, rfl⟩ : ∃ (i : Fin 2048) (j : Fin 1024), y = ix2 i j := ⟨y 0, y 1, eq_ix2 y⟩
  let k : Fin 8 := ⟨i / 256, by omega⟩
  refine ⟨piece T st X k, List.mem_map.mpr ⟨k, (by decide : ∀ k : Fin 8, k ∈ [7, 6, 5, 4, 3, 2, 1, 0]) k, rfl⟩, ?_⟩
  have h : ix2 i j = (Rect.unit (s := S2048x1024) ![256 * k.val, 0] S256x1024.size (slab_inb k)).emb (ix2 (⟨i % 256, Nat.mod_lt _ (by omega)⟩ : Fin 256) j) := by
    rw [emb_slab]
    exact congrArg (fun r : Fin 2048 => ix2 r j) (Fin.ext (Nat.div_add_mod _ _).symm)
  rw [h]
  rw [← Rect.map_emb_univ]
  exact Finset.mem_map_of_mem _ (Finset.mem_univ _)

include hT hst hX in
/-- A store holds the normalized rows it covers. -/
theorem piece_rows (hv : ∀ j, ((-eps : ℝ) : EReal) < cv j) (k : Fin 8) (x : S256x1024.Idx) :
    (piece T st X k).2 x = rowsOf cx cm cv n ((piece T st X k).1.emb x) := by
  obtain ⟨a, b, rfl⟩ : ∃ (a : Fin 256) (b : Fin 1024), x = ix2 a b := ⟨x 0, x 1, eq_ix2 x⟩
  refine (outs_apply hT (stats_holds hT hst hX k.val k.isLt.le) (slab_apply hX k) hv a b).trans ?_
  refine Eq.trans ?_ (congrArg (rowsOf cx cm cv n) (emb_slab k a b)).symm
  rw [Nat.add_assoc]
  rfl

theorem mem_pieces {p : View.Piece (Elt Ideal) S2048x1024 .f32} (hp : p ∈ pieces T st X) : ∃ k, piece T st X k = p := by
  unfold pieces at hp
  obtain ⟨k, -, e⟩ := List.mem_map.mp hp
  exact ⟨k, e⟩

include hT hst hX in
/-- The output block holds the normalized rows. -/
theorem canon_rows (hv : ∀ j, ((-eps : ℝ) : EReal) < cv j) (y : S2048x1024.Idx) : View.canon (pieces T st X) y = rowsOf cx cm cv n y := by
  generalize hL : pieces T st X = L
  refine View.canon_apply_of_pieces _ L (fun p hp => ?_) y (hL ▸ pieces_cover y)
  obtain ⟨k, e⟩ := mem_pieces (hL ▸ hp)
  rw [← e]
  exact piece_rows hT hst hX hv k

include hT hst hX in
/-- The output block holds the normalized rows, at a row and a column. -/
theorem leaves_out (hv : ∀ j, ((-eps : ℝ) : EReal) < cv j) (i : Fin 2048) (j : Fin 1024) :
    (leaves T st X).1 (ix2 i j) = normed (cx j) (cm j) (cv j) eps (n + i) := by
  unfold leaves
  dsimp only
  rw [canon_rows hT hst hX hv]
  unfold rowsOf
  rfl

include hT hst hX in
/-- The statistics left are those of the row after the point's last. -/
theorem leaves_holds : Holds cx cm cv (n + 2048) ⟨(leaves T st X).2.1, (leaves T st X).2.2⟩ := stats_holds hT hst hX 8 le_rfl

end Cert.Point

end
-- ==== Proof.Tables.lean ====
/- What the kernel's windows hold at a grid point: the tables the host computes are powers of the decay, the statistics and the
   data are the arguments'. Hand-written. -/
module

public import proofs.«01_k».proof.Proof.Point
public import Idealize.ShloMosaic.Lib.StableHlo.ReadAt
public import Idealize.ShloMosaic.Lib.WordArith

@[expose] public section

set_option maxRecDepth 16384

noncomputable section

namespace Cert.Tables

open Idealize.ShloMosaic hiding ix1 ix2 eq_ix1 eq_ix2
open Idealize.ShloMosaic.TcCoe Idealize.ShloMosaic.ValueIdx Idealize.ShloMosaic.WordArith Idealize.SL.Sem Cert.KernelIdeal Cert.KernelIdeal.Gen
open Cert.Recur Cert.Consts Cert.Blk Cert.Point

/-- The word of a row index minus a column index. -/
theorem lag_toInt (i k : Fin 256) : (IntOp.subi (BitVec.ofNat 32 i) (BitVec.ofNat 32 k)).toInt = (i : ℤ) - k := by
  have hi : (BitVec.ofNat 32 i.val).toInt = i := toInt_ofNat_small _ (by omega)
  have hk : (BitVec.ofNat 32 k.val).toInt = k := toInt_ofNat_small _ (by omega)
  rw [toInt_subi_of_nonneg _ _ (by omega) (by omega), hi, hk]

theorem sub_one_toInt (w : BitVec 32) (h : -256 ≤ w.toInt) (h' : w.toInt ≤ 256) : (IntOp.subi w 1#32).toInt = w.toInt - 1 := by
  have h1 : (1#32 : BitVec 32).toInt = 1 := by decide
  rw [← h1]
  exact toInt_sub_of_bounds w 1#32 (by rw [h1]; omega) (by rw [h1]; omega)

theorem toInt_max (x y : BitVec 32) : (IntOp.maxsi x y).toInt = max x.toInt y.toInt := by
  unfold IntOp.maxsi
  by_cases h : y.slt x
  · rw [if_pos h]; have := BitVec.slt_iff_toInt_lt.mp h; omega
  · rw [if_neg h]; have := mt BitVec.slt_iff_toInt_lt.mpr h; omega

/-- The host's power at an integer exponent that is not negative. -/
theorem power (e : BitVec 32) (p : ℕ) (h : e.toInt = p) :
    (FloatOps.hostPowf (F := Ideal) (φ := .f32) (FloatOps.hostDivf (FloatOps.ofBits .f32 0x4479C000#32) (FloatOps.ofBits .f32 0x447A0000#32))
      (FloatOps.sitofp .f32 e) : EReal) = ((decay ^ p : ℝ) : EReal) := by
  show Ideal.pow (Ideal.div (Ideal.ofBits .f32 0x4479C000#32) (Ideal.ofBits .f32 0x447A0000#32)) ((e.toInt : ℝ) : EReal) = _
  rw [quotient_eq, Ideal.pow_coe_coe, h]
  exact congrArg _ (Real.rpow_natCast decay p)

/-- An entry of a table: the power where the comparison holds, zero elsewhere. -/
theorem entry (P : Prop) [Decidable P] (lag th e : BitVec 32) (p : ℕ) (hP : P ↔ th.toInt ≤ lag.toInt) (h : P → e.toInt = p) :
    (Scalar.select (IntOp.cmpi .sge lag th)
      (FloatOps.hostPowf (F := Ideal) (φ := .f32) (FloatOps.hostDivf (FloatOps.ofBits .f32 0x4479C000#32) (FloatOps.ofBits .f32 0x447A0000#32))
        (FloatOps.sitofp .f32 e)) (Ideal.ofBits .f32 0#32) : EReal) = (((if P then decay ^ p else 0 : ℝ)) : EReal) := by
  have hs : IntOp.cmpi .sge lag th = 1 ↔ P := (ofBool_eq_one_iff _).trans (BitVec.sle_iff_toInt_le.trans hP.symm)
  unfold Scalar.select
  by_cases hc : P
  · rw [if_pos hc, if_pos (hs.mpr hc), power e p (h hc)]
  · rw [if_neg hc, if_neg (mt hs.mp hc), Ideal.ofBits_zero_f32]; rfl

variable (m : (ℓ : Loc nD τ sig) → Buf (Elt Ideal) ℓ) (c : Dev nD)

/-- The first table, before its split. -/
theorem tri_eq (i k : Fin 256) : (Scalar.select (IntOp.cmpi .sge (IntOp.subi (BitVec.ofNat 32 i) (BitVec.ofNat 32 k)) 0#32)
      (FloatOps.hostPowf (F := Ideal) (φ := .f32) (FloatOps.hostDivf (FloatOps.ofBits .f32 0x4479C000#32) (FloatOps.ofBits .f32 0x447A0000#32))
        (FloatOps.sitofp .f32 (IntOp.maxsi (IntOp.subi (BitVec.ofNat 32 i) (BitVec.ofNat 32 k)) 0#32))) (Ideal.ofBits .f32 0#32) : EReal)
    = ((tri i k : ℝ) : EReal) := by
  have h0 : (0#32 : BitVec 32).toInt = 0 := by decide
  refine entry (k.val ≤ i.val) _ _ _ (i - k) ?_ fun h => ?_
  · rw [h0, lag_toInt]; omega
  · rw [toInt_max, lag_toInt, h0]; omega

theorem thi_at (i k : Fin 256) : (V m c main_v32 (ix2 i k) : EReal) = ((tri i k : ℝ) : EReal) := by
  unfold V
  after_reads_at
  exact tri_eq i k

theorem tlo_at (i k : Fin 256) : (V m c main_v35 (ix2 i k) : EReal) = (0 : EReal) := by
  unfold V
  after_reads_at
  refine (congrArg (fun x : EReal => x - x) (tri_eq i k)).trans ?_
  rw [← EReal.coe_sub, sub_self]; rfl

theorem t2_at (i k : Fin 256) : (V m c main_v36 (ix2 i k) : EReal) = ((tri1 i k : ℝ) : EReal) := by
  have h0 : (0#32 : BitVec 32).toInt = 0 := by decide
  have h1 : (1#32 : BitVec 32).toInt = 1 := by decide
  have hl := lag_toInt i k
  unfold V
  after_reads_at
  refine entry (k.val + 1 ≤ i.val) _ _ _ (i - 1 - k) ?_ fun h => ?_
  · rw [h1]; show _ ↔ _ ≤ (IntOp.subi (BitVec.ofNat 32 i) (BitVec.ofNat 32 k)).toInt; omega
  · show (IntOp.maxsi (IntOp.subi (IntOp.subi (BitVec.ofNat 32 i) (BitVec.ofNat 32 k)) 1#32) 0#32).toInt = _
    rw [toInt_max, sub_one_toInt _ (by omega) (by omega), h0]; omega

theorem dc_at (i : Fin 256) : (V m c main_v31 (ix2 i (0 : Fin 1)) : EReal) = ((decay ^ (i : ℕ) : ℝ) : EReal) := by
  unfold V
  after_reads_at
  exact power _ _ (toInt_ofNat_small _ (by omega))

theorem mean_at (j : Fin 4096) : (V m c main_v37 (ix2 (0 : Fin 1) j) : EReal) = m (c, Proc.tc.devRef main_arg1) (ix1 j) := by
  unfold V
  after_reads_at
  rfl

theorem var_at (j : Fin 4096) : (V m c main_v38 (ix2 (0 : Fin 1) j) : EReal) = m (c, Proc.tc.devRef main_arg2) (ix1 j) := by
  unfold V
  after_reads_at
  rfl

/-- The printed index maps, decided over the grid: a point's block of rows and its columns. -/
theorem idx : ∀ t : Fin grid0.N, win0_0.index t = ![0, 0] ∧ win0_1.index t = ![0, 0] ∧ win0_2.index t = ![0, 0] ∧ win0_3.index t = ![0, 0]
    ∧ win0_4.index t = ![0, t.val / 4] ∧ win0_5.index t = ![0, t.val / 4] ∧ win0_6.index t = ![t.val % 4, t.val / 4] := by decide +kernel

theorem blk0 (t : Fin cfg0.N) (i k : Fin 256) : (iblk m c 0 t : FVec Ideal S256x256 .bf16) (ix2 i k) = V m c main_v32 (ix2 i k) := by
  unfold iblk
  blk_ext [idx t]

theorem blk1 (t : Fin cfg0.N) (i k : Fin 256) : (iblk m c 1 t : FVec Ideal S256x256 .bf16) (ix2 i k) = V m c main_v35 (ix2 i k) := by
  unfold iblk
  blk_ext [idx t]

theorem blk2 (t : Fin cfg0.N) (i k : Fin 256) : (iblk m c 2 t : FVec Ideal S256x256 .bf16) (ix2 i k) = V m c main_v36 (ix2 i k) := by
  unfold iblk
  blk_ext [idx t]

theorem blk3 (t : Fin cfg0.N) (i : Fin 256) : (iblk m c 3 t : FVec Ideal S256x1 .f32) (ix2 i 0) = V m c main_v31 (ix2 i (0 : Fin 1)) := by
  unfold iblk
  blk_ext [idx t]

/-- The column of the array that a grid point's column `j` is. -/
def colOf (t : Fin cfg0.N) (j : Fin 1024) : Fin 4096 := ⟨1024 * (t.val / 4) + j, by have := lt_of_lt_of_eq t.isLt N_0; omega⟩

/-- The row of the array that a grid point's row `i` is. -/
def rowOf (t : Fin cfg0.N) (i : Fin 2048) : Fin 8192 := ⟨2048 * (t.val % 4) + i, by omega⟩

theorem blk4 (t : Fin cfg0.N) (j : Fin 1024) : (iblk m c 4 t : FVec Ideal S1x1024 .f32) (ix2 0 j) = V m c main_v37 (ix2 (0 : Fin 1) (colOf t j)) := by
  unfold iblk colOf
  blk_ext [idx t]
  show t.val / 4 * 1024 + j.val = 1024 * (t.val / 4) + j.val
  omega

theorem blk5 (t : Fin cfg0.N) (j : Fin 1024) : (iblk m c 5 t : FVec Ideal S1x1024 .f32) (ix2 0 j) = V m c main_v38 (ix2 (0 : Fin 1) (colOf t j)) := by
  unfold iblk colOf
  blk_ext [idx t]
  show t.val / 4 * 1024 + j.val = 1024 * (t.val / 4) + j.val
  omega

theorem blk6 (t : Fin cfg0.N) (i : Fin 2048) (j : Fin 1024) :
    (iblk m c 6 t : FVec Ideal S2048x1024 .f32) (ix2 i j) = m (c, Proc.tc.devRef main_arg0) (ix2 (rowOf t i) (colOf t j)) := by
  rw [← V_main_arg0 m c]
  unfold iblk rowOf colOf
  blk_ext [idx t]
  · show t.val % 4 * 2048 + i.val = 2048 * (t.val % 4) + i.val
    omega
  · show t.val / 4 * 1024 + j.val = 1024 * (t.val / 4) + j.val
    omega

/-- The tables a grid point reads hold powers of the decay. -/
theorem tabs_good (t : Fin cfg0.N) : Good (tabs m c t) where
  thi i k := by unfold tabs; dsimp only; rw [blk0]; exact thi_at m c i k
  tlo i k := by unfold tabs; dsimp only; rw [blk1]; exact tlo_at m c i k
  t2 i k := by unfold tabs; dsimp only; rw [blk2]; exact t2_at m c i k
  dc i := by unfold tabs; dsimp only; rw [blk3]; exact dc_at m c i

end Cert.Tables

end
-- ==== Proof.State.lean ====
/- The kernel's grid, point by point: the statistics carried from one block of rows to the next, and the array written back.
   Hand-written. -/
module

public import proofs.«01_k».proof.Proof.Tables

@[expose] public section

set_option maxRecDepth 16384

noncomputable section

namespace Cert.State

open Idealize.ShloMosaic hiding ix1 ix2 eq_ix1 eq_ix2
open Idealize.ShloMosaic.TcCoe Idealize.ShloMosaic.ValueIdx Idealize.SL.Sem Cert.KernelIdeal Cert.KernelIdeal.Gen
open Cert.Recur Cert.Consts Cert.Blk Cert.Point Cert.Tables Cert.KernelIdeal.Value

variable (m : (ℓ : Loc nD τ sig) → Buf (Elt Ideal) ℓ) (c : Dev nD)

/-- The data. -/
def dataOf (r : Fin 8192) (j : Fin 4096) : EReal := m (c, Proc.tc.devRef main_arg0) (ix2 r j)
/-- The starting mean. -/
def meanOf (j : Fin 4096) : EReal := m (c, Proc.tc.devRef main_arg1) (ix1 j)
/-- The starting variance. -/
def varOf (j : Fin 4096) : EReal := m (c, Proc.tc.devRef main_arg2) (ix1 j)

/-- The precondition: data and means are real numbers, variances lie above `-eps`. -/
structure Fine (X : Fin 8192 → Fin 4096 → EReal) (M S : Fin 4096 → EReal) : Prop where
  data : ∀ r j, X r j = ((X r j).toReal : EReal)
  mean : ∀ j, M j = ((M j).toReal : EReal)
  var : ∀ j, ((-eps : ℝ) : EReal) < S j

/-- The data of a grid point's columns. -/
def cx (t : Fin cfg0.N) (j : Fin 1024) : ℕ → ℝ := column (dataOf m c) (colOf t j)
/-- The starting means of a grid point's columns. -/
def cm (t : Fin cfg0.N) (j : Fin 1024) : ℝ := (meanOf m c (colOf t j)).toReal
/-- The starting variances of a grid point's columns. -/
def cv (t : Fin cfg0.N) (j : Fin 1024) : EReal := varOf m c (colOf t j)

/-- What a grid point leaves: its rows normalized, and the statistics of the row after its last. -/
structure Left (t : Fin cfg0.N) : Prop where
  out : ∀ (i : Fin 2048) (j : Fin 1024), (outsAt0 m c t.val t.isLt).1 (ix2 i j) = normed (cx m c t j) (cm m c t j) (cv m c t j) eps (2048 * (t.val % 4) + i)
  stat : Holds (cx m c t) (cm m c t) (cv m c t) (2048 * (t.val % 4) + 2048) ⟨(outsAt0 m c t.val t.isLt).2.1, (outsAt0 m c t.val t.isLt).2.2⟩

variable (hf : Fine (dataOf m c) (meanOf m c) (varOf m c))

include hf in
theorem rows_at (t : Fin cfg0.N) (i : Fin 2048) (j : Fin 1024) :
    (iblk m c 6 t : FVec Ideal S2048x1024 .f32) (ix2 i j) = ((cx m c t j (2048 * (t.val % 4) + i) : ℝ) : EReal) := by
  rw [blk6]
  refine (hf.data (rowOf t i) (colOf t j)).trans (congrArg _ ?_)
  exact (column_at (dataOf m c) (colOf t j) (rowOf t i)).symm

include hf in
/-- A point that starts from the statistics of its first row leaves what it should. -/
theorem left_of (t : Fin cfg0.N) (st : Stat Ideal) (hst : Holds (cx m c t) (cm m c t) (cv m c t) (2048 * (t.val % 4)) st)
    (e : outsAt0 m c t.val t.isLt = leaves (tabs m c t) st (iblk m c 6 t)) : Left m c t where
  out i j := by rw [e]; exact leaves_out (tabs_good m c t) hst (rows_at m c hf t) (fun j => hf.var (colOf t j)) i j
  stat := by rw [e]; exact leaves_holds (tabs_good m c t) hst (rows_at m c hf t)

include hf in
theorem start_holds (t : Fin cfg0.N) (h : t.val % 4 = 0) : Holds (cx m c t) (cm m c t) (cv m c t) (2048 * (t.val % 4)) ⟨iblk m c 4 t, iblk m c 5 t⟩ where
  mu j := by
    rw [h]; dsimp only; rw [blk4]
    exact (mean_at m c (colOf t j)).trans (hf.mean (colOf t j))
  v j := by
    rw [h]; dsimp only; rw [blk5]
    exact var_at m c (colOf t j)

include hf in
/-- Every grid point leaves what it should. -/
theorem left : ∀ (n : ℕ) (hn : n < cfg0.N), Left m c ⟨n, hn⟩ := by
  intro n
  induction n with
  | zero => exact fun hn => left_of m c hf _ _ (start_holds m c hf ⟨0, hn⟩ rfl) (outs_first m c ⟨0, hn⟩ rfl)
  | succ n ih =>
    intro hn
    by_cases h : (n + 1) % 4 = 0
    · exact left_of m c hf _ _ (start_holds m c hf ⟨n + 1, hn⟩ h) (outs_first m c ⟨n + 1, hn⟩ h)
    · have hp := (ih (Nat.lt_of_succ_lt hn)).stat
      refine left_of m c hf _ _ ?_ (outs_later m c ⟨n + 1, hn⟩ h)
      have e1 : 2048 * (n % 4) + 2048 = 2048 * ((n + 1) % 4) := by omega
      have e2 : ∀ j, colOf ⟨n, Nat.lt_of_succ_lt hn⟩ j = colOf ⟨n + 1, hn⟩ j := fun j => Fin.ext (by unfold colOf; dsimp only; omega)
      have e3 : cx m c ⟨n, Nat.lt_of_succ_lt hn⟩ = cx m c ⟨n + 1, hn⟩ := funext fun j => by unfold cx; rw [e2]
      have e4 : cm m c ⟨n, Nat.lt_of_succ_lt hn⟩ = cm m c ⟨n + 1, hn⟩ := funext fun j => by unfold cm; rw [e2]
      have e5 : cv m c ⟨n, Nat.lt_of_succ_lt hn⟩ = cv m c ⟨n + 1, hn⟩ := funext fun j => by unfold cv; rw [e2]
      rw [e3, e4, e5] at hp
      dsimp only at hp
      rw [e1] at hp
      exact hp

include hf in
/-- The array the kernel writes back holds every row normalized. -/
theorem result_at (r : Fin 8192) (j : Fin 4096) : (G7 m c : FVec Ideal S8192x4096 .f32) (ix2 r j) = spec (dataOf m c) (meanOf m c) (varOf m c) eps r j := by
  have hN : cfg0.N = 16 := N_0
  obtain ⟨n, hn⟩ : ∃ n, n = r.val / 2048 + 4 * (j.val / 1024) := ⟨_, rfl⟩
  have hp : pt7Of (ix2 r j) = n := by
    show 1 * (r.val / 2048 - 0) + 4 * (j.val / 1024 - 0) = n
    omega
  have hlt : n < cfg0.N := by omega
  have hl : loc7Of (ix2 r j) = ix2 (⟨r.val % 2048, Nat.mod_lt _ (by omega)⟩ : Fin 2048) (⟨j.val % 1024, Nat.mod_lt _ (by omega)⟩ : Fin 1024) := by
    funext a
    match a with
    | ⟨0, _⟩ => rfl
    | ⟨1, _⟩ => rfl
  have hL := (left m c hf n hlt).out ⟨r.val % 2048, Nat.mod_lt _ (by omega)⟩ ⟨j.val % 1024, Nat.mod_lt _ (by omega)⟩
  have hj : colOf ⟨n, hlt⟩ ⟨j.val % 1024, Nat.mod_lt _ (by omega)⟩ = j := Fin.ext (by unfold colOf; dsimp only; omega)
  have hr : 2048 * (n % 4) + r.val % 2048 = r.val := by omega
  unfold cx cm cv at hL
  dsimp only at hL
  rw [hj, hr, outsAt0_sweep] at hL
  unfold G7
  rw [dif_pos (by rw [hp]; exact hlt), hl, fold0_congr m c _ _ n (by omega) hp]
  exact hL

end Cert.State

end
-- ==== Proof.Ref.lean ====
/- The reference's loop: after `k` trips the carried statistics are the recurrence's at row `k`, and the rows before it are
   normalized. Hand-written. -/
module

public import proofs.«01_k».proof.Proof.State
public import proofs.«01_k».proof.Proof.Gen.ReferenceIdeal.Run
public import Idealize.ShloMosaic.Lib.DynamicIndex

@[expose] public section

set_option maxRecDepth 16384

noncomputable section

namespace Cert.Ref

open Idealize.ShloMosaic hiding ix1 ix2 eq_ix1 eq_ix2
open Idealize.ShloMosaic.TcCoe Idealize.ShloMosaic.ValueIdx Idealize.SL.Sem Idealize.ShloMosaic.StableHlo
open Cert.ReferenceIdeal Cert.ReferenceIdeal.Gen Cert.ReferenceIdeal.Value
open Cert.Recur Cert.Consts Cert.State

/-! ## One row read, one row written -/

/-- The slice of one row, laid out flat, is that row. -/
theorem row_read {α : Type} (x : S8192x4096.Idx → α) (start : Fin 2 → Int) (h : S8192x4096.Slices (fun _ => 0) S1x4096)
    (h' : S1x4096.ShapeCasts S4096) (r : Fin 8192) (h0 : start 0 = (r.val : Int)) (h1 : start 1 = 0) (j : Fin 4096) :
    shapeCast S4096 (Host.dynamicSlice S1x4096 x start h) h' (ix1 j) = x (ix2 r j) := by
  have hr := r.isLt
  have hoff : S8192x4096.Slices (![r.val, 0] : Fin 2 → Nat) S1x4096 := ⟨h.1, fun a => by
    match a with
    | ⟨0, _⟩ => show r.val + 1 ≤ 8192; omega
    | ⟨1, _⟩ => show 0 + 4096 ≤ 4096; omega⟩
  rw [Host.dynamicSlice_eq_extractStridedSlice S1x4096 x start ![r.val, 0] h hoff (fun a => by
    match a with
    | ⟨0, _⟩ => exact h0
    | ⟨1, _⟩ => exact h1)]
  refine (shapeCast_apply _ h' (ix1 j) (ix2 (0 : Fin 1) j) (by
    rw [Shape.rowMajor_val_two, Shape.rowMajor_val_one]; show 0 * 4096 + j.val = j.val; omega)).trans ?_
  exact extractStridedSlice_apply _ _ hoff (ix2 (0 : Fin 1) j) (ix2 r j) (by
    intro a
    match a with
    | ⟨0, _⟩ => rfl
    | ⟨1, _⟩ => show j.val = 0 + j.val; omega)

/-- An array with row `r` replaced reads the new row at row `r` and the old array elsewhere. -/
theorem row_write {α : Type} (x : S8192x4096.Idx → α) (u : S4096.Idx → α) (start : Fin 2 → Int)
    (h : S8192x4096.Slices (fun _ => 0) S1x4096) (hb : S4096.BroadcastsInDim S1x4096 (![1] : Fin 1 → Fin 2)) (r : Fin 8192)
    (h0 : start 0 = (r.val : Int)) (h1 : start 1 = 0) (i : Fin 8192) (j : Fin 4096) :
    Host.dynamicUpdateSlice x (broadcastInDim S1x4096 ![1] hb u) start h (ix2 i j) = if i = r then u (ix1 j) else x (ix2 i j) := by
  have hr := r.isLt
  have hi := i.isLt
  have hj := j.isLt
  have hoff : S8192x4096.Slices (![r.val, 0] : Fin 2 → Nat) S1x4096 := ⟨h.1, fun a => by
    match a with
    | ⟨0, _⟩ => show r.val + 1 ≤ 8192; omega
    | ⟨1, _⟩ => show 0 + 4096 ≤ 4096; omega⟩
  rw [Host.dynamicUpdateSlice_eq_updateSlice x _ start h ![r.val, 0] (fun a => by
    match a with
    | ⟨0, _⟩ => show (min (max (start 0) 0) ((8192 - 1 : Nat) : Int)).toNat = r.val; rw [h0]; omega
    | ⟨1, _⟩ => show (min (max (start 1) 0) ((4096 - 4096 : Nat) : Int)).toNat = 0; rw [h1]; rfl) hoff, updateSlice_apply]
  by_cases e : i = r
  · subst e
    rw [dif_pos (fun a => by
      match a with
      | ⟨0, _⟩ => exact ⟨Nat.le_refl i.val, (by show i.val < i.val + 1; omega)⟩
      | ⟨1, _⟩ => exact ⟨Nat.zero_le _, (by show j.val < 0 + 4096; omega)⟩), if_pos rfl]
    exact broadcastInDim_apply _ hb u _ (ix1 j) (fun a => by
      match a with
      | ⟨0, _⟩ => rfl)
  · rw [dif_neg, if_neg e]
    intro hin
    have h2 : r.val ≤ i.val ∧ i.val < r.val + 1 := hin 0
    exact e (Fin.ext (by omega))

/-! ## The loop -/

/-- The carried mean of column `j`. -/
def muOf (V : Valuation τ sig (Elt Ideal)) (j : Fin 4096) : EReal := V (Proc.devRef .tc main_v2_3) (ix1 j)
/-- The carried variance of column `j`. -/
def vaOf (V : Valuation τ sig (Elt Ideal)) (j : Fin 4096) : EReal := V (Proc.devRef .tc main_v2_4) (ix1 j)
/-- The trip's deviation in column `j`. -/
def dvOf (V : Valuation τ sig (Elt Ideal)) (j : Fin 4096) : EReal := res_main_while0b_v7 V (ix1 j)
/-- The decay the loop carries. -/
def dcOf (V : Valuation τ sig (Elt Ideal)) : EReal := V (Proc.devRef .tc main_v2_1) (fun a => a.elim0)

/-- What the buffers hold before trip `k`. -/
structure Upto (V : Valuation τ sig (Elt Ideal)) (X : Fin 8192 → Fin 4096 → EReal) (M S : Fin 4096 → EReal) (k : ℕ) : Prop where
  data : ∀ r j, (V (Proc.devRef .tc main_v2_0) : FVec Ideal S8192x4096 .f32) (ix2 r j) = X r j
  dec : dcOf V = (decay : EReal)
  ctr : (V (Proc.devRef .tc main_v2_2) : IVec S_ 32) = fun _ => BitVec.ofNat 32 k
  mean : ∀ j, muOf V j = ((mean (column X j) (M j).toReal k : ℝ) : EReal)
  var : ∀ j, vaOf V j = var (column X j) (M j).toReal (S j) k
  out : ∀ (r : Fin 8192) j, r.val < k → (V (Proc.devRef .tc main_v2_5) : FVec Ideal S8192x4096 .f32) (ix2 r j) = spec X M S eps r j

theorem ofBits_one : Ideal.ofBits .f32 0x3F800000#32 = ((1 : ℝ) : EReal) := by
  simp [Ideal.ofBits, Ideal.ieee, -EReal.coe_mul]; norm_num

section Trip

variable {V : Valuation τ sig (Elt Ideal)} {X : Fin 8192 → Fin 4096 → EReal} {M S : Fin 4096 → EReal} {k : ℕ} (hk : k < 8192)
  (hf : Fine X M S) (h : Upto V X M S k)

include hk h in
/-- The row a trip reads and writes. -/
theorem starts : (fun a : Fin 2 => (((![V (Proc.devRef .tc main_v2_2), constantI S_ 32 0#32] : Fin 2 → (⟨S_, .i32⟩ : BufTy).Contents (Elt Ideal))) a
    (Shape.Idx.first h_S_)).toInt) 0 = ((k : ℕ) : Int) := by
  show ((V (Proc.devRef .tc main_v2_2) : IVec S_ 32) (Shape.Idx.first h_S_)).toInt = _
  rw [h.ctr]
  exact toInt_ofNat_of_lt (by omega)

include hk hf h in
/-- A trip's deviations. -/
theorem dev_at (j : Fin 4096) :
    dvOf V j = ((dev (column X j) (M j).toReal k : ℝ) : EReal) := by
  unfold dvOf res_main_while0b_v7
  refine (congrArg₂ (fun a b : EReal => a - b) ((row_read _ _ _ _ ⟨k, hk⟩ (starts hk h) rfl j).trans (h.data _ _)) (h.mean j)).trans ?_
  rw [hf.data, ← EReal.coe_sub]
  exact congrArg _ (congrArg (· - _) (column_at X j ⟨k, hk⟩).symm)

include hk hf h in
/-- One trip takes the statistics to the next row and writes its own. -/
theorem upto_succ : Upto (STEP V) X M S (k + 1) where
  data r j := by rw [STEP_main_v2_0]; exact h.data r j
  dec := by unfold dcOf; rw [STEP_main_v2_1]; exact h.dec
  ctr := by
    rw [STEP_main_v2_2]
    unfold step_main_v2_2
    show addi (V (Proc.devRef .tc main_v2_2) : IVec S_ 32) (constantI S_ 32 1#32) = _
    rw [h.ctr]
    funext i
    show BitVec.ofNat 32 k + BitVec.ofNat 32 1 = _
    rw [← BitVec.ofNat_add]
  mean j := by
    unfold muOf
    rw [STEP_main_v2_3]
    unfold step_main_v2_3
    have e : muOf V j + (Ideal.ofBits .f32 0x3F800000#32 - dcOf V) * dvOf V j = ((mean (column X j) (M j).toReal (k + 1) : ℝ) : EReal) := by
      rw [h.mean, dev_at hk hf h, h.dec, ofBits_one, ← EReal.coe_sub, ← EReal.coe_mul, ← EReal.coe_add, mean_succ]
    refine Eq.trans ?_ e
    exact congrArg (fun t : EReal => muOf V j + t * dvOf V j) (broadcastInDim_apply _ bcast_S_S4096 _ (ix1 j) (fun a => a.elim0) (fun a => a.elim0))
  var j := by
    unfold vaOf
    rw [STEP_main_v2_4]
    unfold step_main_v2_4
    have e : dcOf V * vaOf V j + dcOf V * (Ideal.ofBits .f32 0x3F800000#32 - dcOf V) * dvOf V j * dvOf V j
        = var (column X j) (M j).toReal (S j) (k + 1) := by
      rw [h.var, dev_at hk hf h, h.dec, ofBits_one, ← EReal.coe_sub, ← EReal.coe_mul, ← EReal.coe_mul, ← EReal.coe_mul, var_succ]
      unfold push
      rw [gain_eq, mul_assoc (decay * (1 - decay))]
    refine Eq.trans ?_ e
    exact congrArg₂ (fun s t : EReal => s * vaOf V j + t * dvOf V j * dvOf V j)
      (broadcastInDim_apply _ bcast_S_S4096 _ (ix1 j) (fun a => a.elim0) (fun a => a.elim0))
      (broadcastInDim_apply _ bcast_S_S4096 _ (ix1 j) (fun a => a.elim0) (fun a => a.elim0))
  out r j hr := by
    rw [STEP_main_v2_5]
    unfold step_main_v2_5
    refine (row_write _ _ _ _ _ ⟨k, hk⟩ (starts hk h) rfl r j).trans ?_
    by_cases e : r = ⟨k, hk⟩
    · rw [if_pos e]
      have e' : Ideal.div (dvOf V j) (Ideal.sqrt (vaOf V j + Ideal.ofBits .f32 0x3727C5AC#32)) = spec X M S eps r j := by
        rw [h.var, dev_at hk hf h, ofBits_eps, e]; rfl
      exact e'
    · rw [if_neg e]
      exact h.out r j (Nat.lt_of_le_of_ne (Nat.lt_succ_iff.mp hr) fun c => e (Fin.ext c))

end Trip

variable (m : (ℓ : Loc nD τ sig) → Buf (Elt Ideal) ℓ) (c : Dev nD)

/-- The data. -/
def dataOf' (r : Fin 8192) (j : Fin 4096) : EReal := m (c, Proc.tc.devRef main_arg0) (ix2 r j)
/-- The starting mean. -/
def meanOf' (j : Fin 4096) : EReal := m (c, Proc.tc.devRef main_arg1) (ix1 j)
/-- The starting variance. -/
def varOf' (j : Fin 4096) : EReal := m (c, Proc.tc.devRef main_arg2) (ix1 j)

variable (hf : Fine (dataOf' m c) (meanOf' m c) (varOf' m c))

theorem entry_data : entryContents preI m c (Proc.devRef .tc main_v2_0) = m (c, Proc.tc.devRef main_arg0) := by
  simp only [entryContents, afterL_cons, afterL_nil]
  after_reads_simp
  rfl

theorem entry_mean : entryContents preI m c (Proc.devRef .tc main_v2_3) = m (c, Proc.tc.devRef main_arg1) := by
  simp only [entryContents, afterL_cons, afterL_nil]
  after_reads_simp
  rfl

theorem entry_var : entryContents preI m c (Proc.devRef .tc main_v2_4) = m (c, Proc.tc.devRef main_arg2) := by
  simp only [entryContents, afterL_cons, afterL_nil]
  after_reads_simp
  rfl

theorem entry_dec : dcOf (entryContents preI m c) = (decay : EReal) := by
  refine Eq.trans ?_ quotient_eq
  unfold dcOf
  simp only [entryContents, afterL_cons, afterL_nil]
  after_reads_simp
  rfl

include hf in
/-- Before the first trip. -/
theorem upto_zero : Upto (entryContents preI m c) (dataOf' m c) (meanOf' m c) (varOf' m c) 0 where
  data r j := by rw [entry_data]; rfl
  dec := entry_dec m c
  ctr := ctr_entry m c
  mean j := by unfold muOf; rw [entry_mean]; exact hf.mean j
  var j := by unfold vaOf; rw [entry_var]; rfl
  out r j hr := absurd hr (Nat.not_lt_zero _)

include hf in
/-- Before every trip, and after the last. -/
theorem upto : ∀ k, k ≤ 8192 → Upto (STEP^[k] (entryContents preI m c)) (dataOf' m c) (meanOf' m c) (varOf' m c) k
  | 0, _ => upto_zero m c hf
  | k + 1, h => by
    rw [Function.iterate_succ_apply']
    exact upto_succ h hf (upto k (Nat.le_of_succ_le h))

include hf in
/-- The reference's result: every row normalized by the recurrence's statistics before it. -/
theorem ref_at (r : Fin 8192) (j : Fin 4096) :
    ((STEP^[8192] (entryContents preI m c)) (Proc.devRef .tc main_v2_5) : FVec Ideal S8192x4096 .f32) (ix2 r j)
      = spec (dataOf' m c) (meanOf' m c) (varOf' m c) eps r j :=
  (upto m c hf 8192 (Nat.le_refl _)).out r j r.isLt

end Cert.Ref
-- ==== Proof.Pre.lean ====
/- What the precondition says of the arguments, element by element. Hand-written. -/
module

public import proofs.«01_k».proof.Defs
public import proofs.«01_k».proof.Proof.State
public import Idealize.ShloMosaic.Lib.Pointwise.Select
public import proofs.«01_k».proof.Proof.Gen.Pre_finite_data_valid_var

@[expose] public section

set_option maxRecDepth 16384

noncomputable section

namespace Cert.Pre

open Idealize.ShloMosaic hiding ix1 ix2 eq_ix1 eq_ix2
open Idealize.ShloMosaic.TcCoe Idealize.ShloMosaic.ValueIdx Idealize.SL.Sem Cert.KernelIdeal
open Cert.Consts Cert.State

/-- A value whose absolute value lies below infinity is a real number. -/
theorem real_of_abs {x : EReal} (h : Ideal.cmp .olt (max x (-x)) (Ideal.ofBits .f32 0x7F800000#32) = 1#1) : x = (x.toReal : EReal) := by
  have h' : max x (-x) < ⊤ := by rw [ofBits_inf] at h; exact (Ideal.cmp_olt_eq_one _ _).mp h
  refine (EReal.coe_toReal (fun e => ?_) (fun e => ?_)).symm
  · rw [e] at h'; simp at h'
  · rw [e] at h'; simp at h'

/-- A value above the negated epsilon's pattern lies above `-eps`. -/
theorem gt_of_cmp {x : EReal} (h : Ideal.cmp .ogt x (Ideal.ofBits .f32 0xB727C5AC#32) = 1#1) : ((-eps : ℝ) : EReal) < x := by
  rw [ofBits_neg_eps] at h; exact (Ideal.cmp_ogt_eq_one _ _).mp h

/-- The precondition makes data and means real numbers and puts the variances above `-eps`. -/
theorem fine_of_pre (m : (ℓ : Loc nD τ sig) → Buf (Elt Ideal) ℓ) (c : Dev nD)
    (h : @Cert.Pre_KernelIdeal_finite_data_valid_var Cert.Pre_finite_data_valid_var.Gen.facts m) :
    Fine (dataOf m c) (meanOf m c) (varOf m c) where
  data r j := real_of_abs (congrFun (h c).1 (ix2 r j))
  mean j := real_of_abs (congrFun (h c).2.1 (ix1 j))
  var j := gt_of_cmp (congrFun (h c).2.2 (ix1 j))

end Cert.Pre

end
-- ==== Proof.lean ====
/- The claims: the three frames, the two named constants, and the kernel's result equal to the reference's. Hand-written. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_data_valid_var
public import proofs.«01_k».proof.Proof.Ref
public import proofs.«01_k».proof.Proof.Pre
public import Idealize.ShloMosaic.Lib.Quiescent
public import Idealize.ShloMosaic.Lib.Tactic.ValueTie
public import Idealize.ShloMosaic.Adequacy
public import Idealize.ShloMosaic.Init

@[expose] public section

noncomputable section

namespace Cert.Proof

open Idealize.ShloMosaic hiding ix1 ix2 eq_ix1 eq_ix2
open Idealize.ShloMosaic.TcCoe Idealize.ShloMosaic.ValueIdx Idealize.SL.Sem
open Cert.Recur Cert.Consts Cert.State Cert.Ref Cert.Pre

/-- The kernel's run leaves its arguments alone and the machine quiet. -/
theorem frame_p : @Cert.quiescent_Kernel Cert.Kernel.Gen.facts := fun m ρ _ => Cert.Kernel.Gen.frame m ρ

/-- So does the idealized kernel's. -/
theorem frame_pi : @Cert.quiescent_KernelIdeal Cert.KernelIdeal.Gen.facts := fun m ρ _ => Cert.KernelIdeal.Gen.frame m ρ

/-- And under the precondition. -/
theorem frame_pi_pre :
    @Cert.quiescent_KernelIdeal_pre_finite_data_valid_var Cert.KernelIdeal.Gen.facts Cert.Pre_finite_data_valid_var.Gen.facts :=
  fun m ρ _ => Cert.KernelIdeal.Gen.frame m ρ

/-- The reference's run leaves its arguments alone and the machine quiet. -/
theorem frame_ri : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And under the precondition. -/
theorem frame_ri_pre :
    @Cert.quiescent_ReferenceIdeal_pre_finite_data_valid_var Cert.ReferenceIdeal.Gen.facts Cert.Pre_finite_data_valid_var.Gen.facts :=
  fun m ρ _ => frame_ri m ρ trivial

/-- The two named constants lie at their bit patterns. -/
theorem preserves : Cert.preserves_Kernel_KernelIdeal :=
  ⟨IdealRules.named_const.statement Cert.KernelIdeal.κ "c" .f32 0x3A82F0E1#32 _ rfl,
    IdealRules.named_const.statement Cert.KernelIdeal.κ "afwd" .f32 0x3F7FBE77#32 _ rfl⟩

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- On equal arguments the reference's result is the kernel's, element by element. -/
theorem results_eq (hf : Fine (dataOf m c) (meanOf m c) (varOf m c)) (h0 : dataOf' m' c = dataOf m c) (h1 : meanOf' m' c = meanOf m c)
    (h2 : varOf' m' c = varOf m c) :
    ((Cert.ReferenceIdeal.Value.STEP^[8192] (StableHlo.entryContents Cert.ReferenceIdeal.Value.preI m' c))
      (Proc.devRef .tc Cert.ReferenceIdeal.main_v2_5) : FVec Ideal Cert.ReferenceIdeal.S8192x4096 .f32)
      = (Cert.KernelIdeal.Value.G7 m c : FVec Ideal Cert.KernelIdeal.S8192x4096 .f32) := by
  have hf' : Fine (dataOf' m' c) (meanOf' m' c) (varOf' m' c) := by rw [h0, h1, h2]; exact hf
  have e (r : Fin 8192) (j : Fin 4096) : spec (dataOf' m' c) (meanOf' m' c) (varOf' m' c) eps r j
      = spec (dataOf m c) (meanOf m c) (varOf m c) eps r j := by rw [h0, h1, h2]
  funext i
  obtain ⟨r, j, rfl⟩ : ∃ (r : Fin 8192) (j : Fin 4096), i = ix2 r j := ⟨i 0, i 1, eq_ix2 i⟩
  exact (ref_at m' c hf' r j).trans ((e r j).trans (result_at m c hf r j).symm)

end Values

/-- The idealized kernel and the reference end with the same result. -/
theorem algebraic : @Cert.algebraic_KernelIdeal_ReferenceIdeal_pre_finite_data_valid_var Cert.KernelIdeal.Gen.facts
    Cert.ReferenceIdeal.Gen.facts Cert.Pre_finite_data_valid_var.Gen.facts := by
  intro m ρ m' ρ' hpre hagree
  refine ⟨fun c => Cert.KernelIdeal.Value.G7 m c, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  refine results_eq m m' c (fine_of_pre m c hpre) ?_ ?_ ?_
  · exact funext fun r => funext fun j => congrFun (hagree c).1 (ix2 r j)
  · exact funext fun j => congrFun (hagree c).2.1 (ix1 j)
  · exact funext fun j => congrFun (hagree c).2.2 (ix1 j)

/-- All the claims together. -/
theorem claim : Cert.Claim :=
  ⟨Cert.Kernel.Gen.facts, Cert.KernelIdeal.Gen.facts, Cert.ReferenceIdeal.Gen.facts, Cert.Pre_finite_data_valid_var.Gen.facts,
    frame_p, frame_pi, frame_pi_pre, frame_ri, frame_ri_pre, preserves, algebraic⟩

end Cert.Proof

end
